-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def preserves_Reference_ReferenceIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hReference : Cert.Reference.Facts) (hKernelIdeal : Cert.KernelIdeal.Facts) (hReferenceIdeal : Cert.ReferenceIdeal.Facts),
    quiescent_Kernel (hKernel := hKernel)
    ∧ quiescent_Reference (hReference := hReference)
    ∧ quiescent_KernelIdeal (hKernelIdeal := hKernelIdeal)
    ∧ quiescent_ReferenceIdeal (hReferenceIdeal := hReferenceIdeal)
    ∧ preserves_Kernel_KernelIdeal
    ∧ preserves_Reference_ReferenceIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S16384x126 : Shape := ⟨2, ![16384, 126]⟩
abbrev S16384x100 : Shape := ⟨2, ![16384, 100]⟩

abbrev nBuf : Space → Nat
  | .hbm => 2
  | .vmem => 2
  | .smem => 0
  | _ => 0

abbrev bufTy : (tb : Table) → Fin (tcTables nBuf tb) → BufTy
  | .hbm, ⟨0, _⟩ => ⟨S16384x126, .f32⟩
  | .hbm, ⟨1, _⟩ => ⟨S16384x100, .f32⟩
  | .local _ .vmem, ⟨0, _⟩ => ⟨S16384x126, .f32⟩
  | .local _ .vmem, ⟨1, _⟩ => ⟨S16384x100, .f32⟩
  | _, _ => ⟨S16384x126, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16384x126 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16384x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference.lean ====
abbrev S16384x126 : Shape := ⟨2, ![16384, 126]⟩
abbrev S100 : Shape := ⟨1, ![100]⟩
abbrev S_ : Shape := ⟨0, ![]⟩
abbrev S100x1 : Shape := ⟨2, ![100, 1]⟩
abbrev S1 : Shape := ⟨1, ![1]⟩
abbrev S1x1 : Shape := ⟨2, ![1, 1]⟩
abbrev S16384x100 : Shape := ⟨2, ![16384, 100]⟩

abbrev nBuf : Space → Nat
  | .hbm => 25
  | .vmem => 0
  | .smem => 0
  | _ => 0

abbrev bufTy : (tb : Table) → Fin (tcTables nBuf tb) → BufTy
  | .hbm, ⟨0, _⟩ => ⟨S16384x126, .f32⟩
  | .hbm, ⟨1, _⟩ => ⟨S100, .i32⟩
  | .hbm, ⟨2, _⟩ => ⟨S_, .i32⟩
  | .hbm, ⟨3, _⟩ => ⟨S100, .i32⟩
  | .hbm, ⟨4, _⟩ => ⟨S100, .i1⟩
  | .hbm, ⟨5, _⟩ => ⟨S_, .i32⟩
  | .hbm, ⟨6, _⟩ => ⟨S100, .i32⟩
  | .hbm, ⟨7, _⟩ => ⟨S100, .i32⟩
  | .hbm, ⟨8, _⟩ => ⟨S100, .i32⟩
  | .hbm, ⟨9, _⟩ => ⟨S100x1, .i32⟩
  | .hbm, ⟨10, _⟩ => ⟨S1, .i32⟩
  | .hbm, ⟨11, _⟩ => ⟨S_, .i32⟩
  | .hbm, ⟨12, _⟩ => ⟨S100x1, .i32⟩
  | .hbm, ⟨13, _⟩ => ⟨S100x1, .i1⟩
  | .hbm, ⟨14, _⟩ => ⟨S1x1, .i32⟩
  | .hbm, ⟨15, _⟩ => ⟨S100x1, .i32⟩
  | .hbm, ⟨16, _⟩ => ⟨S100x1, .i1⟩
  | .hbm, ⟨17, _⟩ => ⟨S100x1, .i1⟩
  | .hbm, ⟨18, _⟩ => ⟨S_, .i1⟩
  | .hbm, ⟨19, _⟩ => ⟨S100, .i1⟩
  | .hbm, ⟨20, _⟩ => ⟨S16384x100, .f32⟩
  | .hbm, ⟨21, _⟩ => ⟨S16384x100, .i1⟩
  | .hbm, ⟨22, _⟩ => ⟨S_, .f32⟩
  | .hbm, ⟨23, _⟩ => ⟨S16384x100, .f32⟩
  | .hbm, ⟨24, _⟩ => ⟨S16384x100, .f32⟩
  | _, _ => ⟨S16384x126, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Columns.lean ====
/-
  WHAT `jnp.take(x, ids, axis=1)` COMPUTES when `ids` are the consecutive columns `lo, lo + 1, …, lo + K − 1` of an
  `[N, C]` array: element `(r, q)` of the result is `x` at row `r`, column `lo + q`. Nothing here names a program or a
  float instance: the lemmas hold for arrays of any element type.

  jax prints the take as follows. A negative index is wrapped by adding `C`. The wrapped indices, as a column
  `[K, 1]`, are the start indices of a gather of whole columns. Beside it, a mask is set where an index lies in
  `[0, C − 1]`, and where it is not set the result is a not-a-number word instead of the gathered element. With every
  index in range the wrap changes nothing (`wrap_eq`), the mask is set everywhere (`mask_eq`), and the gather's clamp
  changes nothing (`gather_columns`). `take_columns` puts the three together.
-/
module

public import Idealize.ShloMosaic.PureOps
public import Idealize.ShloMosaic.Lib.ValueIdxCore
public import Idealize.ShloMosaic.Lib.StableHlo.Predicate
public import Idealize.ShloMosaic.Lib.Pipeline.Value

@[expose] public section

noncomputable section

namespace Cert.Columns

open Idealize.ShloMosaic Idealize.ShloMosaic.ValueIdx
open Idealize.ShloMosaic.StableHlo.Predicate (slt_iff_toNat sge_iff_toNat sle_iff_toNat)

variable {α : Type} {N C K : Nat}

/-! ## The gather of whole columns -/

/-- The dimension numbers of a gather of whole columns: result `(r, q)` reads row `r` of the column that start index
    `q` names. -/
abbrev colDims (N C K : Nat) (wf : GatherDims.WF ⟨2, ![N, C]⟩ ⟨2, ![K, 1]⟩ ⟨2, ![N, K]⟩ [0] [1] [] [1] [] 1 ![N, 1]) :
    GatherDims ⟨2, ![N, C]⟩ ⟨2, ![K, 1]⟩ ⟨2, ![N, K]⟩ where
  offsetDims := [0]
  collapsedSliceDims := [1]
  operandBatchingDims := []
  startIndicesBatchingDims := []
  startIndexMap := [1]
  indexVectorDim := 1
  sliceSizes := ![N, 1]
  wf := wf

/-- The gather of whole columns at `(r, q)`, when start index `q` is the word of a column `k` of the array: the array
    at `(r, k)`. The clamp into `[0, C − 1]` changes nothing, `k` being in range. -/
theorem gather_columns (wf : GatherDims.WF ⟨2, ![N, C]⟩ ⟨2, ![K, 1]⟩ ⟨2, ![N, K]⟩ [0] [1] [] [1] [] 1 ![N, 1])
    (x : (⟨2, ![N, C]⟩ : Shape).Idx → α) (idx : IVec ⟨2, ![K, 1]⟩ 32) (r : Fin N) (q : Fin K) (k : Fin C)
    (hC : C < 2 ^ 31) (hidx : idx (ix2 q (0 : Fin 1)) = BitVec.ofNat 32 k.val) :
    Host.gather (colDims N C K wf) x idx (ix2 r q) = x (ix2 r k) := by
  have hk := k.isLt
  have hword : (BitVec.ofNat 32 k.val).toInt.toNat = k.val := by
    rw [BitVec.toInt_eq_toNat_of_lt (by simp only [BitVec.toNat_ofNat]; omega), BitVec.toNat_ofNat]; omega
  unfold Host.gather
  refine congrArg x (funext (Fin.forall_fin_two.mpr ⟨Fin.ext ?_, Fin.ext ?_⟩))
  · show (colDims N C K wf).start (ix2 r q) idx 0 + (colDims N C K wf).batchCoord (ix2 r q) 0
        + (colDims N C K wf).offCoord (ix2 r q) 0 = r.val
    rw [GatherDims.batchCoord_eq_zero _ _ _ List.not_mem_nil, Nat.add_zero]
    unfold GatherDims.start GatherDims.offCoord
    rw [dif_neg (show ¬ (0 : Fin 2) ∈ (colDims N C K wf).startIndexMap from by simp), Nat.zero_add,
      dif_pos ((GatherDims.mem_sKept (colDims N C K wf) 0).2 ⟨by simp, by simp⟩)]
    rfl
  · show (colDims N C K wf).start (ix2 r q) idx 1 + (colDims N C K wf).batchCoord (ix2 r q) 1
        + (colDims N C K wf).offCoord (ix2 r q) 1 = k.val
    rw [GatherDims.batchCoord_eq_zero _ _ _ List.not_mem_nil, Nat.add_zero, GatherDims.offCoord_eq_zero _ _ _
      (fun h => ((GatherDims.mem_sKept _ _).mp h).1 (List.mem_singleton.mpr rfl)), Nat.add_zero]
    unfold GatherDims.start
    rw [dif_pos (show (1 : Fin 2) ∈ (colDims N C K wf).startIndexMap from List.mem_singleton.mpr rfl)]
    have hsi : (colDims N C K wf).siIdx (ix2 r q) ⟨List.idxOf (1 : Fin 2) (colDims N C K wf).startIndexMap,
        List.idxOf_lt_length_iff.2 (List.mem_singleton.mpr rfl)⟩ = ix2 q (0 : Fin 1) :=
      funext (Fin.forall_fin_two.mpr ⟨Fin.ext rfl, Fin.ext rfl⟩)
    rw [hsi, hidx]
    show min (BitVec.ofNat 32 k.val).toInt.toNat (C - 1) = k.val
    rw [hword]; omega

/-! ## The wrap of negative indices and the mask of indices in range -/

/-- jax's wrap, "an index below zero has the extent added to it", leaves a vector of indices in range as it is. -/
theorem wrap_eq {s : Shape} (tab zeros extent : IVec s 32) (h0 : ∀ i, zeros i = 0#32) (hC : C < 2 ^ 31)
    (ht : ∀ i, (tab i).toNat < C) : select (cmpi .slt tab zeros) (addi tab extent) tab = tab := by
  funext i
  show Scalar.select (IntOp.cmpi .slt (tab i) (zeros i)) (IntOp.addi (tab i) (extent i)) (tab i) = tab i
  have hi := ht i
  have hn : ¬ IntOp.cmpi .slt (tab i) (zeros i) = 1#1 := by
    rw [h0, slt_iff_toNat (by omega) (by decide)]; exact Nat.not_lt_zero _
  rw [eq_zero_of_ne_one hn, select_zero]

/-- The conjunction of bits that are all set, from a set bit, is set. -/
theorem reduce_andi_ones {s t u : Shape} {axes : List (Fin s.rank)} (x : IVec s 1) (init : IVec u 1)
    (h : s.ReducesTo axes t) (hu : 0 < u.numel) (hinit : ∀ i, init i = 1#1) (hx : ∀ i, x i = 1#1) (j : t.Idx) :
    Host.reduce IntOp.andi x init h hu j = 1#1 := by
  unfold Host.reduce
  rw [hinit]
  generalize (List.finRange s.numel).filter _ = l
  induction l with
  | nil => rfl
  | cons n l ih =>
    rw [List.foldl_cons, hx, show IntOp.andi (1#1 : BitVec 1) 1#1 = 1#1 from rfl]
    exact ih

/-- Both of the mask's comparisons hold of an index in `[0, C − 1]`. -/
theorem mask_eq {w lo hi : BitVec 32} (hC : C < 2 ^ 31) (hlo : lo = 0#32) (hhi : hi = BitVec.ofNat 32 (C - 1))
    (hw : w.toNat < C) : IntOp.andi (IntOp.cmpi .sge w lo) (IntOp.cmpi .sle w hi) = 1#1 := by
  subst hlo hhi
  have hn : (BitVec.ofNat 32 (C - 1)).toNat = C - 1 := by rw [BitVec.toNat_ofNat]; omega
  rw [(sge_iff_toNat (by omega) (by decide)).2 (Nat.zero_le _), (sle_iff_toNat (by omega) (by omega)).2 (by omega)]
  rfl

/-! ## The take -/

/-- THE TAKE OF CONSECUTIVE COLUMNS, as jax prints it: with `ids q` the word of `lo + q`, and all of these columns of the
    array, the result at `(r, q)` is the array at `(r, lo + q)`, whatever `fill` is put where an index is out of range. -/
theorem take_columns {lo : Nat} (hC : C < 2 ^ 31) (hK : lo + K ≤ C)
    (wf : GatherDims.WF ⟨2, ![N, C]⟩ ⟨2, ![K, 1]⟩ ⟨2, ![N, K]⟩ [0] [1] [] [1] [] 1 ![N, 1])
    {b0 b1 b2 b3 b4 b5 b6 hred hu} (x : (⟨2, ![N, C]⟩ : Shape).Idx → α) (ids : IVec ⟨1, ![K]⟩ 32)
    (hids : ∀ q : Fin K, ids (ix1 q) = BitVec.ofNat 32 (lo + q.val)) (fill : (⟨2, ![N, K]⟩ : Shape).Idx → α)
    (extent : IVec ⟨1, ![K]⟩ 32) (j : (⟨2, ![N, K]⟩ : Shape).Idx) (i : (⟨2, ![N, C]⟩ : Shape).Idx)
    (hi0 : (i 0 : Nat) = j 0) (hi1 : (i 1 : Nat) = lo + j 1) :
    select
      (broadcastInDim (s := ⟨1, ![K]⟩) ⟨2, ![N, K]⟩ ![1] b0
        (Host.reduce (s := ⟨2, ![K, 1]⟩) (axes := [1]) (t := ⟨1, ![K]⟩) (u := ⟨0, ![]⟩) IntOp.andi
          (andi
            (cmpi .sge
              (broadcastInDim (s := ⟨1, ![K]⟩) ⟨2, ![K, 1]⟩ ![0] b1
                (select (cmpi .slt ids (broadcastInDim (s := ⟨0, ![]⟩) ⟨1, ![K]⟩ ![] b2 (constantI ⟨0, ![]⟩ 32 0#32)))
                  (addi ids extent) ids))
              (broadcastInDim (s := ⟨0, ![]⟩) ⟨2, ![K, 1]⟩ ![] b3 (constantI ⟨0, ![]⟩ 32 0#32)))
            (cmpi .sle
              (broadcastInDim (s := ⟨1, ![K]⟩) ⟨2, ![K, 1]⟩ ![0] b1
                (select (cmpi .slt ids (broadcastInDim (s := ⟨0, ![]⟩) ⟨1, ![K]⟩ ![] b2 (constantI ⟨0, ![]⟩ 32 0#32)))
                  (addi ids extent) ids))
              (broadcastInDim (s := ⟨2, ![1, 1]⟩) ⟨2, ![K, 1]⟩ ![0, 1] b4
                (broadcastInDim (s := ⟨1, ![1]⟩) ⟨2, ![1, 1]⟩ ![1] b5
                  (constantI ⟨1, ![1]⟩ 32 (BitVec.ofNat 32 (C - 1)))))))
          (constantI ⟨0, ![]⟩ 1 1#1) hred hu))
      (Host.gather (colDims N C K wf) x
        (broadcastInDim (s := ⟨1, ![K]⟩) ⟨2, ![K, 1]⟩ ![0] b6
          (select (cmpi .slt ids (broadcastInDim (s := ⟨0, ![]⟩) ⟨1, ![K]⟩ ![] b2 (constantI ⟨0, ![]⟩ 32 0#32)))
            (addi ids extent) ids)))
      fill j = x i := by
  have hrange : ∀ k : (⟨1, ![K]⟩ : Shape).Idx, (ids k).toNat < C := fun k => by
    obtain ⟨q, rfl⟩ : ∃ q : Fin K, k = ix1 q := ⟨k 0, eq_ix1 k⟩
    have hq := q.isLt
    rw [hids, BitVec.toNat_ofNat]
    omega
  rw [wrap_eq (C := C) ids (broadcastInDim (s := ⟨0, ![]⟩) ⟨1, ![K]⟩ ![] b2 (constantI ⟨0, ![]⟩ 32 0#32)) extent
    (fun _ => rfl) hC hrange]
  obtain ⟨r, q, rfl⟩ : ∃ (r : Fin N) (q : Fin K), j = ix2 r q := ⟨j 0, j 1, eq_ix2 j⟩
  have hq := q.isLt
  have hi : i = ix2 r ⟨lo + q.val, by omega⟩ :=
    funext (Fin.forall_fin_two.mpr ⟨Fin.ext hi0, Fin.ext hi1⟩)
  rw [hi]
  refine (show select _ _ fill (ix2 r q) = Scalar.select _ _ _ from rfl).trans ?_
  rw [show ∀ m : IVec (⟨1, ![K]⟩ : Shape) 1, (∀ k, m k = 1#1) →
      broadcastInDim (s := ⟨1, ![K]⟩) ⟨2, ![N, K]⟩ ![1] b0 m (ix2 r q) = 1#1 from fun m hm => hm _,
    select_one]
  · refine gather_columns wf x _ r q ⟨lo + q.val, by omega⟩ hC ?_
    rw [broadcastInDim_apply ![0] b6 ids _ (ix1 q), hids]
    intro a
    match a with
    | ⟨0, _⟩ =>
      show q.val = if K = 1 then 0 else q.val
      split <;> omega
  · exact fun k => reduce_andi_ones _ _ _ _ (fun _ => rfl) (fun e => mask_eq hC rfl rfl (hrange _)) k

end Cert.Columns

end
-- ==== Proof.lean ====
/-
  THE CERTIFICATE: the kernel that copies columns 26 to 125 of a `[16384, 126]` array out of its one block, against
  `jnp.take` at these columns.

  The runs come from the generated modules: the kernel's result array is a load of the argument through the rectangle of
  100 columns that starts at column 26 (`Value.run`), and the reference's is the take as jax prints it (`Run.lean`).
  `Columns.lean` says what that take computes. Here the two meet: for each of the two printed references its table holds
  the words of 26 to 125 (`ids_…`), and its value is the kernel's, element by
  element: at the ideal instance the algebraic claim, at bit patterns the bit-exact one.
-/
module

public import proofs.«01_k».proof.Defs
public import proofs.«01_k».proof.Proof.Columns
public import proofs.«01_k».proof.Proof.Gen.Kernel.Value
public import proofs.«01_k».proof.Proof.Gen.KernelIdeal.Value
public import proofs.«01_k».proof.Proof.Gen.Reference.Run
public import proofs.«01_k».proof.Proof.Gen.ReferenceIdeal.Run
public import Idealize.ShloMosaic.Lib.Quiescent
public import Idealize.ShloMosaic.Lib.Pipeline.ValueKit.Tiles

@[expose] public section

noncomputable section

namespace Cert.Proof

open Idealize.ShloMosaic Idealize.SL.Sem Idealize.ShloMosaic.ValueIdx

/-! ## The references' tables of columns -/

/-- Entry `q` of `Reference`'s table of columns is the word of `26 + q`. -/
theorem ids_Reference (q : Fin 100) :
    Cert.Reference.lit0 (Cert.Reference.S100.rowMajor (ix1 q)) = BitVec.ofNat 32 (26 + q.val) := by
  rw [show Cert.Reference.S100.rowMajor (ix1 q) = q from Fin.ext (Shape.rowMajor_val_one _)]
  revert q
  decide +kernel

/-- Entry `q` of `ReferenceIdeal`'s table of columns is the word of `26 + q`. -/
theorem ids_ReferenceIdeal (q : Fin 100) :
    Cert.ReferenceIdeal.lit0 (Cert.ReferenceIdeal.S100.rowMajor (ix1 q)) = BitVec.ofNat 32 (26 + q.val) := by
  rw [show Cert.ReferenceIdeal.S100.rowMajor (ix1 q) = q from Fin.ext (Shape.rowMajor_val_one _)]
  revert q
  decide +kernel

/-! ## The references' frames -/

/-- `Reference` runs and leaves its argument unchanged; it declares no semaphore, so every counter ends at zero. -/
theorem frame_Reference : quiescent_Reference := fun m ρ _ =>
  (θ_run Cert.Reference.defs _ _).mono (fun r h => ⟨fun c => (h c).2, sem_eq_zero_of_no_sems (by decide) r.2⟩)
    (Cert.Reference.Value.run (F := Bits) m ρ)

/-- `ReferenceIdeal` runs and leaves its argument unchanged; it declares no semaphore, so every counter ends at zero. -/
theorem frame_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The values -/

/-- Over the extended reals the kernel's array is the reference's: at `(r, q)` both are the argument at `(r, 26 + q)`. -/
theorem algebraic_pair : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c]
  funext j
  exact Columns.take_columns (lo := 26) (by decide) (by decide) _ _ _ ids_ReferenceIdeal _ _ j (Cert.KernelIdeal.Gen.r0_0.idx j)
    ((Rect.idx_unit_val (s := Cert.KernelIdeal.S16384x126) ![0, 26] Cert.KernelIdeal.S16384x100.size _ j 0).trans (Nat.zero_add _))
    (Rect.idx_unit_val (s := Cert.KernelIdeal.S16384x126) ![0, 26] Cert.KernelIdeal.S16384x100.size _ j 1)

/-- On bit patterns the kernel's array is the reference's, word for word: at `(r, q)` both are the argument at `(r, 26 + q)`. -/
theorem bitexact_pair : bitexact_Kernel_Reference := by
  intro m ρ m' ρ' _ hagree
  refine ⟨_, Cert.Kernel.Value.run (F := Bits) m ρ, ?_⟩
  refine (θ_run Cert.Reference.defs _ _).mono (fun _ h c => ⟨(h c).1.trans ?_, (h c).2⟩)
    (Cert.Reference.Value.run (F := Bits) m' ρ')
  rw [hagree c]
  funext j
  exact Columns.take_columns (lo := 26) (by decide) (by decide) _ _ _ ids_Reference _ _ j (Cert.Kernel.Gen.r0_0.idx j)
    ((Rect.idx_unit_val (s := Cert.Kernel.S16384x126) ![0, 26] Cert.Kernel.S16384x100.size _ j 0).trans (Nat.zero_add _))
    (Rect.idx_unit_val (s := Cert.Kernel.S16384x126) ![0, 26] Cert.Kernel.S16384x100.size _ j 1)

/-! ## The certificate -/

/-- Everything claimed: the four frames, the two idealizations, the algebraic and the bit-exact equality. -/
theorem claim : Cert.Claim :=
  ⟨Cert.Kernel.Gen.facts, Cert.Reference.Gen.facts, Cert.KernelIdeal.Gen.facts, Cert.ReferenceIdeal.Gen.facts,
    fun m ρ _ => Cert.Kernel.Gen.frame m ρ, frame_Reference, fun m ρ _ => Cert.KernelIdeal.Gen.frame m ρ,
    frame_ReferenceIdeal, (trivial : preserves_Kernel_KernelIdeal), (trivial : preserves_Reference_ReferenceIdeal),
    algebraic_pair, bitexact_pair⟩

end Cert.Proof

end
